-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x16384x3 : Shape := ⟨3, ![4, 16384, 3]⟩
abbrev S4x512x3 : Shape := ⟨3, ![4, 512, 3]⟩
abbrev S_ : Shape := ⟨0, ![]⟩

class Facts : Prop where
  bcast_S_S4x16384x3 : S_.BroadcastsInDim S4x16384x3 (![] : Fin 0 → Fin S4x16384x3.rank)
  reducesTo_S4x16384x3_S_d0_1_2 : S4x16384x3.ReducesTo [0, 1, 2] S_
  h_S_ : 0 < S_.numel
  bcast_S_S4x512x3 : S_.BroadcastsInDim S4x512x3 (![] : Fin 0 → Fin S4x512x3.rank)
  reducesTo_S4x512x3_S_d0_1_2 : S4x512x3.ReducesTo [0, 1, 2] S_

variable [Facts]

def fn {F : FTy → Type} [FloatOps F] (main_arg0 : FVec F S4x16384x3 .f32) (main_arg1 : FVec F S4x512x3 .f32) : IVec S_ 1 :=
  let main_v0 : FVec F S4x16384x3 .f32 := Host.absf main_arg0
  let main_cst : FVec F S_ .f32 := constant S_ .f32 0x7F800000#32
  let main_v1 : FVec F S4x16384x3 .f32 := broadcastInDim S4x16384x3 ![] bcast_S_S4x16384x3 main_cst
  let main_v2 : IVec S4x16384x3 1 := cmpf .olt main_v0 main_v1
  let main_c : IVec S_ 1 := constantI S_ 1 1#1
  let main_v3 : IVec S_ 1 := (fun x v => Host.reduce IntOp.andi x v reducesTo_S4x16384x3_S_d0_1_2 h_S_) main_v2 main_c
  let main_v4 : FVec F S4x512x3 .f32 := Host.absf main_arg1
  let main_cst_0 : FVec F S_ .f32 := constant S_ .f32 0x7F800000#32
  let main_v5 : FVec F S4x512x3 .f32 := broadcastInDim S4x512x3 ![] bcast_S_S4x512x3 main_cst_0
  let main_v6 : IVec S4x512x3 1 := cmpf .olt main_v4 main_v5
  let main_c_1 : IVec S_ 1 := constantI S_ 1 1#1
  let main_v7 : IVec S_ 1 := (fun x v => Host.reduce IntOp.andi x v reducesTo_S4x512x3_S_d0_1_2 h_S_) main_v6 main_c_1
  let main_v8 : IVec S_ 1 := andi main_v3 main_v7
  main_v8
-- ==== Kernel.lean ====
abbrev S4x16384x3 : Shape := ⟨3, ![4, 16384, 3]⟩
abbrev S4x512x3 : Shape := ⟨3, ![4, 512, 3]⟩
abbrev S4x512x32 : Shape := ⟨3, ![4, 512, 32]⟩
abbrev S1x16384x3 : Shape := ⟨3, ![1, 16384, 3]⟩
abbrev S1x128x3 : Shape := ⟨3, ![1, 128, 3]⟩
abbrev S1x128x32 : Shape := ⟨3, ![1, 128, 32]⟩
abbrev S16384x3 : Shape := ⟨2, ![16384, 3]⟩
abbrev S128x3 : Shape := ⟨2, ![128, 3]⟩
abbrev S128x1 : Shape := ⟨2, ![128, 1]⟩
abbrev S16384x1 : Shape := ⟨2, ![16384, 1]⟩
abbrev S16384 : Shape := ⟨1, ![16384]⟩
abbrev S1x16384 : Shape := ⟨2, ![1, 16384]⟩
abbrev S128x16384 : Shape := ⟨2, ![128, 16384]⟩
abbrev S128 : Shape := ⟨1, ![128]⟩
abbrev S128x32 : Shape := ⟨2, ![128, 32]⟩

abbrev nBuf : Space → Nat
  | .hbm => 3
  | .vmem => 6
  | .smem => 0
  | _ => 0

abbrev bufTy : (tb : Table) → Fin (tcTables nBuf tb) → BufTy
  | .hbm, ⟨0, _⟩ => ⟨S4x16384x3, .f32⟩
  | .hbm, ⟨1, _⟩ => ⟨S4x512x3, .f32⟩
  | .hbm, ⟨2, _⟩ => ⟨S4x512x32, .i32⟩
  | .local _ .vmem, ⟨0, _⟩ => ⟨S1x16384x3, .f32⟩
  | .local _ .vmem, ⟨1, _⟩ => ⟨S1x16384x3, .f32⟩
  | .local _ .vmem, ⟨2, _⟩ => ⟨S1x128x3, .f32⟩
  | .local _ .vmem, ⟨3, _⟩ => ⟨S1x128x3, .f32⟩
  | .local _ .vmem, ⟨4, _⟩ => ⟨S1x128x32, .i32⟩
  | .local _ .vmem, ⟨5, _⟩ => ⟨S1x128x32, .i32⟩
  | _, _ => ⟨S4x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16384x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x16384x3 : Shape := ⟨3, ![4, 16384, 3]⟩
abbrev S4x512x3 : Shape := ⟨3, ![4, 512, 3]⟩
abbrev S4x3x16384 : Shape := ⟨3, ![4, 3, 16384]⟩
abbrev S4x512x16384 : Shape := ⟨3, ![4, 512, 16384]⟩
abbrev S_ : Shape := ⟨0, ![]⟩
abbrev S4x512 : Shape := ⟨2, ![4, 512]⟩
abbrev S4x512x1 : Shape := ⟨3, ![4, 512, 1]⟩
abbrev S4x16384 : Shape := ⟨2, ![4, 16384]⟩
abbrev S4x1x16384 : Shape := ⟨3, ![4, 1, 16384]⟩
abbrev S4x512x32 : Shape := ⟨3, ![4, 512, 32]⟩

abbrev nBuf : Space → Nat
  | .hbm => 22
  | .vmem => 0
  | .smem => 0
  | _ => 0

abbrev bufTy : (tb : Table) → Fin (tcTables nBuf tb) → BufTy
  | .hbm, ⟨0, _⟩ => ⟨S4x16384x3, .f32⟩
  | .hbm, ⟨1, _⟩ => ⟨S4x512x3, .f32⟩
  | .hbm, ⟨2, _⟩ => ⟨S4x3x16384, .f32⟩
  | .hbm, ⟨3, _⟩ => ⟨S4x512x16384, .f32⟩
  | .hbm, ⟨4, _⟩ => ⟨S_, .f32⟩
  | .hbm, ⟨5, _⟩ => ⟨S4x512x16384, .f32⟩
  | .hbm, ⟨6, _⟩ => ⟨S4x512x16384, .f32⟩
  | .hbm, ⟨7, _⟩ => ⟨S4x512x3, .f32⟩
  | .hbm, ⟨8, _⟩ => ⟨S_, .f32⟩
  | .hbm, ⟨9, _⟩ => ⟨S4x512, .f32⟩
  | .hbm, ⟨10, _⟩ => ⟨S4x512x1, .f32⟩
  | .hbm, ⟨11, _⟩ => ⟨S4x512x16384, .f32⟩
  | .hbm, ⟨12, _⟩ => ⟨S4x512x16384, .f32⟩
  | .hbm, ⟨13, _⟩ => ⟨S4x16384x3, .f32⟩
  | .hbm, ⟨14, _⟩ => ⟨S_, .f32⟩
  | .hbm, ⟨15, _⟩ => ⟨S4x16384, .f32⟩
  | .hbm, ⟨16, _⟩ => ⟨S4x1x16384, .f32⟩
  | .hbm, ⟨17, _⟩ => ⟨S4x512x16384, .f32⟩
  | .hbm, ⟨18, _⟩ => ⟨S4x512x16384, .f32⟩
  | .hbm, ⟨19, _⟩ => ⟨S4x512x16384, .f32⟩
  | .hbm, ⟨20, _⟩ => ⟨S4x512x32, .f32⟩
  | .hbm, ⟨21, _⟩ => ⟨S4x512x32, .i32⟩
  | _, _ => ⟨S4x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_values : Ref sig .tc := ⟨.hbm, 20, rfl⟩
abbrev main_indices : Ref sig .tc := ⟨.hbm, 21, rfl⟩

abbrev nD : Nat := 1
abbrev τ : Topo := Topo.v7x

variable {F : FTy → Type} [FloatOps F]
-- ==== Proof.Rounds.lean ====
/-
  A selection by repeated minima is the front of a stable sort.

  A row of finite extended reals is sorted stably by `<`. Independently, a sequence of rounds takes the least index
  at which the row attains its least value and overwrites that entry with `⊤`. This module proves that round `r`
  takes the index that the sort puts at place `r`.
-/
module

public import Idealize.ShloMosaic.PureOps
public import Idealize.ShloMosaic.Lib.SortFacts
public import Mathlib.Data.EReal.Basic
public import Mathlib.Data.Finset.Max

@[expose] public section

namespace Cert.Knn

open Idealize.ShloMosaic

variable {n : ℕ}

/-- The order in which a stable sort lists a row's indices: by value, and among equal values by index. -/
def Precedes (x : Fin n → EReal) (a b : Fin n) : Prop := x a < x b ∨ (x a = x b ∧ a < b)

/-- The comparison the stable sort is given: strictly smaller value first. -/
noncomputable def before (x : Fin n → EReal) (a b : Fin n) : Bool := decide (x a < x b)

/-- The comparison holds exactly of a strictly smaller value. -/
theorem before_iff (x : Fin n → EReal) (a b : Fin n) : before x a b = true ↔ x a < x b := decide_eq_true_iff

/-- The order of the sort is transitive. -/
theorem Precedes.trans {x : Fin n → EReal} {a b c : Fin n} (h : Precedes x a b) (h' : Precedes x b c) :
    Precedes x a c := by
  rcases h with h | ⟨h, hab⟩ <;> rcases h' with h' | ⟨h', hbc⟩
  · exact .inl (h.trans h')
  · exact .inl (h' ▸ h)
  · exact .inl (h ▸ h')
  · exact .inr ⟨h.trans h', hab.trans hbc⟩

/-- Inserting an index that is below every index already listed keeps the list in order. -/
theorem pairwise_insert (x : Fin n → EReal) (a : Fin n) (l : List (Fin n)) (ha : ∀ b ∈ l, a < b)
    (hl : l.Pairwise (Precedes x)) : (insertBefore (before x) a l).Pairwise (Precedes x) := by
  induction l with
  | nil => exact List.pairwise_singleton _ _
  | cons b l ih =>
    rw [List.pairwise_cons] at hl
    unfold insertBefore
    split
    · rename_i h
      rw [before_iff] at h
      refine List.pairwise_cons.mpr ⟨fun c hc => ?_, ih (fun c hc => ha c (List.mem_cons_of_mem b hc)) hl.2⟩
      rcases List.mem_cons.mp ((perm_insertBefore (before x) a l).mem_iff.mp hc) with rfl | hc'
      · exact .inl h
      · exact hl.1 c hc'
    · rename_i h
      rw [before_iff, not_lt] at h
      have hab : Precedes x a b := by
        rcases h.lt_or_eq with h | h
        · exact .inl h
        · exact .inr ⟨h, ha b List.mem_cons_self⟩
      refine List.pairwise_cons.mpr ⟨fun c hc => ?_, List.pairwise_cons.mpr hl⟩
      rcases List.mem_cons.mp hc with rfl | hc'
      · exact hab
      · exact hab.trans (hl.1 c hc')

/-- The stable sort of an increasing list of indices is in order. -/
theorem pairwise_sort (x : Fin n → EReal) (l : List (Fin n)) (hl : l.Pairwise (· < ·)) :
    (stableSort (before x) l).Pairwise (Precedes x) := by
  induction l with
  | nil => exact List.Pairwise.nil
  | cons a l ih =>
    rw [List.pairwise_cons] at hl
    unfold stableSort
    exact pairwise_insert x a _ (fun b hb => hl.1 b ((perm_stableSort _ l).mem_iff.mp hb)) (ih hl.2)

/-- The index at an earlier place of the sort precedes the index at a later one. -/
theorem sortedFrom_precedes (x : Fin n → EReal) (i j : Fin n) (hij : i < j) :
    Precedes x (sortedFrom (before x) i) (sortedFrom (before x) j) := by
  have hp : ∀ a b : Fin (sortPositions n (before x)).length, a < b →
      Precedes x ((sortPositions n (before x)).get a) ((sortPositions n (before x)).get b) :=
    List.pairwise_iff_get.mp (pairwise_sort x (List.finRange n) (List.pairwise_lt_finRange n))
  unfold sortedFrom
  exact hp _ _ (by simp only [Fin.lt_def, Fin.val_cast]; exact hij)

/-- `k` is the least index at which the row `d` attains its least value. -/
def IsLeast (d : Fin n → EReal) (k : Fin n) : Prop := (∀ j, d k ≤ d j) ∧ ∀ j, d j = d k → k ≤ j

/-- A row has at most one least index of its least value. -/
theorem IsLeast.unique {d : Fin n → EReal} {k k' : Fin n} (h : IsLeast d k) (h' : IsLeast d k') : k = k' :=
  have e : d k = d k' := le_antisymm (h.1 k') (h'.1 k)
  le_antisymm (h.2 k' e.symm) (h'.2 k e)

/-- A nonempty row has a least index of its least value. -/
theorem exists_isLeast [NeZero n] (d : Fin n → EReal) : ∃ k, IsLeast d k := by
  obtain ⟨k₀, -, h₀⟩ := Finset.exists_min_image Finset.univ d ⟨0, Finset.mem_univ _⟩
  obtain ⟨k, hk, h⟩ := Finset.exists_min_image (Finset.univ.filter fun j => d j = d k₀) id ⟨k₀, by simp⟩
  have e : d k = d k₀ := (Finset.mem_filter.mp hk).2
  exact ⟨k, fun j => e ▸ h₀ j (Finset.mem_univ j),
    fun j hj => h j (Finset.mem_filter.mpr ⟨Finset.mem_univ j, hj.trans e⟩)⟩

/-- The least index at which a row attains its least value. -/
noncomputable def leastIndex [NeZero n] (d : Fin n → EReal) : Fin n := (exists_isLeast d).choose

/-- It is such an index. -/
theorem leastIndex_spec [NeZero n] (d : Fin n → EReal) : IsLeast d (leastIndex d) := (exists_isLeast d).choose_spec

/-- The row with the least index of its least value overwritten by `⊤`. -/
noncomputable def strike [NeZero n] (d : Fin n → EReal) : Fin n → EReal := Function.update d (leastIndex d) ⊤

/-- If the indices at the first `r` places of the sort hold `⊤` and the others are as in the row `x`, all of whose
    entries are below `⊤`, then the least index of the least value is the one at place `r`. -/
theorem leastIndex_of_struck [NeZero n] (x d : Fin n → EReal) (hx : ∀ k, x k < ⊤) (r : Fin n)
    (hd : ∀ t : Fin n, d (sortedFrom (before x) t) = if t < r then ⊤ else x (sortedFrom (before x) t)) :
    leastIndex d = sortedFrom (before x) r := by
  refine (leastIndex_spec d).unique ?_
  have hr : d (sortedFrom (before x) r) = x (sortedFrom (before x) r) := by rw [hd r, if_neg (lt_irrefl r)]
  constructor
  · intro j
    obtain ⟨t, rfl⟩ := sortedFrom_surjective (before x) j
    rw [hr, hd t]
    split
    · exact le_top
    · rename_i h
      rcases (not_lt.mp h).lt_or_eq with h | h
      · rcases sortedFrom_precedes x r t h with h | h
        · exact h.le
        · exact h.1.le
      · rw [h]
  · intro j hj
    obtain ⟨t, rfl⟩ := sortedFrom_surjective (before x) j
    rw [hr, hd t] at hj
    split at hj
    · exact absurd hj (hx _).ne'
    · rename_i h
      rcases (not_lt.mp h).lt_or_eq with h | h
      · rcases sortedFrom_precedes x r t h with h | h
        · exact absurd hj h.ne'
        · exact h.2.le
      · rw [h]

/-- After `r` rounds exactly the indices at the first `r` places of the sort are struck. -/
theorem strike_iterate [NeZero n] (x : Fin n → EReal) (hx : ∀ k, x k < ⊤) (r : ℕ) (hr : r ≤ n) (t : Fin n) :
    strike^[r] x (sortedFrom (before x) t) = if t.val < r then ⊤ else x (sortedFrom (before x) t) := by
  induction r generalizing t with
  | zero => simp
  | succ r ih =>
    have hl : leastIndex (strike^[r] x) = sortedFrom (before x) ⟨r, hr⟩ :=
      leastIndex_of_struck x _ hx ⟨r, hr⟩ fun t => by rw [ih (Nat.le_of_succ_le hr) t]; rfl
    rw [Function.iterate_succ_apply', strike, hl, Function.update_apply, ih (Nat.le_of_succ_le hr) t]
    by_cases h : t = ⟨r, hr⟩
    · subst h; simp
    · have h' : t.val ≠ r := fun e => h (Fin.ext e)
      rw [if_neg fun e => h (sortedFrom_injective _ e)]
      exact if_congr (by omega) rfl rfl

/-- Round `r` takes the index at place `r` of the stable sort. -/
theorem leastIndex_strike_iterate [NeZero n] (x : Fin n → EReal) (hx : ∀ k, x k < ⊤) (r : ℕ) (hr : r < n) :
    leastIndex (strike^[r] x) = sortedFrom (before x) ⟨r, hr⟩ :=
  leastIndex_of_struck x _ hx ⟨r, hr⟩ fun t => by rw [strike_iterate x hx r hr.le t]; rfl

end Cert.Knn
-- ==== Proof.Round.lean ====
/-
  One round of the kernel, read row by row.

  A round takes a block of 128 rows of distances. `pick` is the vector of indices it chooses, `next` the block with the
  chosen entries overwritten by `+∞`. This module proves that each row of `pick` is the least index of the row's least
  value, and each row of `next` is that row struck there.
-/
module

public import proofs.«01_k».proof.Proof.Rounds
public import proofs.«01_k».proof.Proof.Gen.KernelIdeal
public import Idealize.ShloMosaic.Lib.Pointwise

@[expose] public section

noncomputable section

namespace Cert.Knn

open Idealize.ShloMosaic Cert.KernelIdeal Cert.KernelIdeal.Gen

/-- The index of every entry within its row. -/
def lanes : IVec S128x16384 32 := iota .tc S128x16384 32 [1] iota_S128x16384_d1_w32

/-- Where a row attains its least value, the index; elsewhere 16384, which is past every index. -/
def candidates (d : FVec Ideal S128x16384 .f32) : IVec S128x16384 32 :=
  select (cmpf .oeq d (broadcastTo S128x16384 (shapeCast S128x1
      (multiReduction .minimumf [1] S128 d 0x7F800000#32 reduces_S128x16384_S128 (.inl rfl) rfl)
      shapeCasts_S128_S128x1) broadcasts_S128x1_S128x16384))
    lanes (broadcast S128x16384 16384#32)

/-- The least candidate of every row: what a round chooses. -/
def pick (d : FVec Ideal S128x16384 .f32) : IVec S128 32 :=
  multiReductionI .minsi [1] S128 (candidates d) 2147483647#32 reduces_S128x16384_S128 rfl

/-- Where a row's entry is the one the row has chosen. -/
def chosen (v : IVec S128 32) : IVec S128x16384 1 :=
  cmpi .eq lanes (broadcastTo S128x16384 (shapeCast S128x1 v shapeCasts_S128_S128x1) broadcasts_S128x1_S128x16384)

/-- The block with the chosen entries overwritten by `+∞`: what a round hands to the following one. -/
def next (d : FVec Ideal S128x16384 .f32) : FVec Ideal S128x16384 .f32 :=
  select (chosen (pick d)) (broadcast S128x16384 (Scalar.ofBits .f32 0x7F800000#32)) d

/-- Row `i` of a block of distances. -/
def row (d : FVec Ideal S128x16384 .f32) (i : Fin 128) : Fin 16384 → EReal := fun k => d (ix2 i k)

/-- The pattern the kernel overwrites with is `+∞`. -/
theorem ofBits_infinity : Ideal.ofBits .f32 0x7F800000#32 = ⊤ := by
  simp [Ideal.ofBits, Ideal.ieee]

/-- The minimum of a row, taken from `⊤`, is the row at its least index of the least value. -/
theorem fold_min_eq {n : ℕ} [NeZero n] (x : Fin n → EReal) :
    Finset.univ.fold min ⊤ x = x (leastIndex x) := by
  refine le_antisymm ((Finset.fold_min_le _).mpr (.inr ⟨_, Finset.mem_univ _, le_rfl⟩)) ?_
  exact (Finset.le_fold_min _).mpr ⟨le_top, fun k _ => (leastIndex_spec x).1 k⟩

/-- The signed minimum of two words, read as integers, is the minimum of the integers. -/
theorem toInt_minsi (a b : BitVec 32) : (IntOp.minsi a b).toInt = min a.toInt b.toInt := by
  unfold IntOp.minsi
  simp only [BitVec.slt, decide_eq_true_eq]
  split <;> omega

/-- A signed minimum of words is any one of them that is at most the start and at most all of them. -/
theorem fold_minsi_eq {n : ℕ} (w : Fin n → BitVec 32) (b : BitVec 32) (a : Fin n) (hb : (w a).toInt ≤ b.toInt)
    (h : ∀ k, (w a).toInt ≤ (w k).toInt) : Finset.univ.fold IntOp.minsi b w = w a := by
  apply BitVec.eq_of_toInt_eq
  rw [← Finset.fold_hom (op' := min) (m := BitVec.toInt) toInt_minsi]
  refine le_antisymm ((Finset.fold_min_le _).mpr (.inr ⟨a, Finset.mem_univ _, le_rfl⟩)) ?_
  exact (Finset.le_fold_min _).mpr ⟨hb, fun k _ => h k⟩

/-- The word of an index below 16384, read as an integer, is the index. -/
theorem toInt_ofNat (k : Fin 16384) : (BitVec.ofNat 32 k.val).toInt = k.val := by
  have := k.isLt
  rw [BitVec.toInt_eq_toNat_of_lt] <;> simp only [BitVec.toNat_ofNat] <;> omega

/-- Different indices have different words. -/
theorem ofNat_inj (k k' : Fin 16384) : BitVec.ofNat 32 k.val = BitVec.ofNat 32 k'.val ↔ k = k' := by
  refine ⟨fun h => Fin.ext ?_, fun h => h ▸ rfl⟩
  have := congrArg BitVec.toInt h
  rw [toInt_ofNat, toInt_ofNat] at this
  exact_mod_cast this

/-- A choice by whether two words are equal. -/
theorem select_eq {α : Type} (a b : BitVec 32) (x y : α) :
    Scalar.select (IntOp.cmpi .eq a b) x y = if a = b then x else y := by
  by_cases h : a = b
  · subst h; simp [Scalar.select, IntOp.cmpi]
  · have : (a == b) = false := beq_eq_false_iff_ne.mpr h
    simp [Scalar.select, IntOp.cmpi, this, h]

set_option maxRecDepth 16384 in
/-- An entry of the candidates: the index where the row attains its least value, 16384 elsewhere. -/
theorem candidates_apply (d : FVec Ideal S128x16384 .f32) (i : Fin 128) (k : Fin 16384) :
    candidates d (ix2 i k)
      = if row d i k = row d i (leastIndex (row d i)) then BitVec.ofNat 32 k.val else 16384#32 := by
  rw [← fold_min_eq (row d i), ← ofBits_infinity]
  pointwise [candidates, lanes]
  rfl

set_option maxRecDepth 16384 in
/-- A round chooses in every row the least index of the row's least value. -/
theorem pick_apply (d : FVec Ideal S128x16384 .f32) (i : Fin 128) :
    pick d (ix1 i) = BitVec.ofNat 32 (leastIndex (row d i)).val := by
  have ha : candidates d (ix2 i (leastIndex (row d i))) = BitVec.ofNat 32 (leastIndex (row d i)).val := by
    rw [candidates_apply, if_pos rfl]
  have hlt := (leastIndex (row d i)).isLt
  pointwise [pick]
  refine (fold_minsi_eq _ _ (leastIndex (row d i)) ?_ fun k => ?_).trans ha
  · rw [ha, toInt_ofNat]
    have : (2147483647#32).toInt = 2147483647 := by decide
    omega
  · rw [ha, candidates_apply, toInt_ofNat]
    split
    · rename_i h
      rw [toInt_ofNat]
      exact_mod_cast (leastIndex_spec (row d i)).2 k h
    · have : (16384#32).toInt = 16384 := by decide
      omega

set_option maxRecDepth 16384 in
/-- A round strikes in every row the least index of the row's least value. -/
theorem row_next (d : FVec Ideal S128x16384 .f32) (i : Fin 128) : row (next d) i = strike (row d i) := by
  funext k
  have h : next d (ix2 i k) = if k = leastIndex (row d i) then ⊤ else row d i k := by
    rw [← ofBits_infinity]
    pointwise [next, chosen, lanes]
    rw [pick_apply]
    rw [select_eq]
    simp only [ofNat_inj]
    rfl
  rw [strike, Function.update_apply, ← h]
  rfl

/-- After `r` rounds every row has been struck `r` times. -/
theorem row_next_iterate (d : FVec Ideal S128x16384 .f32) (i : Fin 128) (r : ℕ) :
    row (next^[r] d) i = strike^[r] (row d i) := by
  induction r with
  | zero => rfl
  | succ r ih => rw [Function.iterate_succ_apply', Function.iterate_succ_apply', row_next, ih]

/-- Round `r` chooses in a row of finite distances the index at place `r` of the row's stable sort. -/
theorem pick_iterate (d : FVec Ideal S128x16384 .f32) (i : Fin 128) (hd : ∀ k, row d i k < ⊤) (r : ℕ)
    (hr : r < 16384) :
    pick (next^[r] d) (ix1 i) = BitVec.ofNat 32 (sortedFrom (before (row d i)) ⟨r, hr⟩).val := by
  rw [pick_apply, row_next_iterate, leastIndex_strike_iterate _ hd r hr]

end Cert.Knn

end
-- ==== Proof.Block.lean ====
/-
  What the kernel's body writes for one block of points.

  The body runs 32 rounds on a block of distances and writes the chosen indices side by side. This module proves that
  column `r` of the written block is `pick` of the distances after `r` rounds.
-/
module

public import proofs.«01_k».proof.Proof.Round
public import proofs.«01_k».proof.Proof.Gen.KernelIdeal.Frame
public import Idealize.ShloMosaic.Lib.Pipeline.Value
public import Idealize.ShloMosaic.Lib.Pointwise

@[expose] public section

noncomputable section

namespace Cert.Knn

open Idealize.ShloMosaic Cert.KernelIdeal Cert.KernelIdeal.Gen

variable (x0 : Vec Ideal S1x16384x3 .f32) (x1 : Vec Ideal S1x128x3 .f32)

/-- The block of distances the rounds start from. -/
def dist : FVec Ideal S128x16384 .f32 :=
  k0_pay9 (k0_pay89 x0 x1) (k0_pay90 x0 x1) (k0_pay91 x0 x1) (k0_pay92 x0 x1) (k0_pay93 x0 x1)

/-- The block of distances after `r` rounds. -/
def after (r : ℕ) : FVec Ideal S128x16384 .f32 := next^[r] (dist x0 x1)

/-- Before any round the block is the distances. -/
theorem after_zero : after x0 x1 0 = dist x0 x1 := rfl

/-- One more round. -/
theorem after_succ (r : ℕ) : after x0 x1 (r + 1) = next (after x0 x1 r) := Function.iterate_succ_apply' ..

attribute [local irreducible] after

/-- Where every row of a block attains its least value. -/
def attained (d : FVec Ideal S128x16384 .f32) : IVec S128x16384 1 :=
  cmpf .oeq d (broadcastTo S128x16384 (shapeCast S128x1
      (multiReduction .minimumf [1] S128 d 0x7F800000#32 reduces_S128x16384_S128 (.inl rfl) rfl)
      shapeCasts_S128_S128x1) broadcasts_S128x1_S128x16384)

set_option maxRecDepth 65536

/-! ## The parts of the body, each from a block of distances `d`

The body is written in parts that hand one another the block of distances together with a piece of the round under way:
where the least value is attained, the candidates, or where the chosen entries lie. -/

/-- Statements 61–120: the first two rounds, a third begun. -/
theorem part2 (v1 : FVec Ideal S16384x3 .f32) (v30 : FVec Ideal S128x16384 .f32) (v47 : FVec Ideal S128 .f32)
    (v49 v51 : FVec Ideal S16384 .f32) :
    k0_pay10 v1 v30 v47 v49 v51 = pick (k0_pay9 v1 v30 v47 v49 v51)
    ∧ k0_pay12 v1 v30 v47 v49 v51 = pick (next (k0_pay9 v1 v30 v47 v49 v51))
    ∧ k0_pay13 v1 v30 v47 v49 v51 = next (next (k0_pay9 v1 v30 v47 v49 v51))
    ∧ k0_pay14 v1 v30 v47 v49 v51 = attained (next (next (k0_pay9 v1 v30 v47 v49 v51))) :=
  ⟨rfl, rfl, rfl, rfl⟩

/-- Statements 121–180: four rounds from a block whose least values are located. -/
theorem part3 (d : FVec Ideal S128x16384 .f32) :
    k0_pay15 lanes (attained d) = pick d
    ∧ k0_pay17 (F := Ideal) lanes d (attained d) = pick (next d)
    ∧ k0_pay19 (F := Ideal) lanes d (attained d) = pick (next (next d))
    ∧ k0_pay21 (F := Ideal) lanes d (attained d) = pick (next (next (next d)))
    ∧ k0_pay22 (F := Ideal) lanes d (attained d) = next (next (next (next d))) :=
  ⟨rfl, rfl, rfl, rfl, rfl⟩

/-- Statements 181–240: four rounds from a block, the last left with its chosen entries located. -/
theorem part4 (d : FVec Ideal S128x16384 .f32) :
    k0_pay23 (F := Ideal) lanes d = pick d
    ∧ k0_pay25 (F := Ideal) lanes d = pick (next d)
    ∧ k0_pay27 (F := Ideal) lanes d = pick (next (next d))
    ∧ k0_pay28 (F := Ideal) lanes d = next (next (next d))
    ∧ k0_pay29 (F := Ideal) lanes d = pick (next (next (next d)))
    ∧ k0_pay30 (F := Ideal) lanes d = chosen (pick (next (next (next d)))) :=
  ⟨rfl, rfl, rfl, rfl, rfl, rfl⟩

/-- Statements 241–300: three rounds from a block whose chosen entries are located, a fourth begun. -/
theorem part5 (d : FVec Ideal S128x16384 .f32) :
    k0_pay32 (F := Ideal) lanes d (chosen (pick d)) = pick (next d)
    ∧ k0_pay34 (F := Ideal) lanes d (chosen (pick d)) = pick (next (next d))
    ∧ k0_pay36 (F := Ideal) lanes d (chosen (pick d)) = pick (next (next (next d)))
    ∧ k0_pay37 (F := Ideal) lanes d (chosen (pick d)) = next (next (next (next d)))
    ∧ k0_pay38 (F := Ideal) lanes d (chosen (pick d)) = candidates (next (next (next (next d)))) :=
  ⟨rfl, rfl, rfl, rfl, rfl⟩

/-- Statements 301–360: four rounds from a block with its candidates, a fifth begun. -/
theorem part6 (d : FVec Ideal S128x16384 .f32) :
    k0_pay39 (candidates d) = pick d
    ∧ k0_pay41 (F := Ideal) lanes d (candidates d) = pick (next d)
    ∧ k0_pay43 (F := Ideal) lanes d (candidates d) = pick (next (next d))
    ∧ k0_pay45 (F := Ideal) lanes d (candidates d) = pick (next (next (next d)))
    ∧ k0_pay46 (F := Ideal) lanes d (candidates d) = next (next (next (next d)))
    ∧ k0_pay47 (F := Ideal) lanes d (candidates d) = attained (next (next (next (next d)))) :=
  ⟨rfl, rfl, rfl, rfl, rfl, rfl⟩

/-- Statements 361–420: four rounds from a block whose least values are located. -/
theorem part7 (d : FVec Ideal S128x16384 .f32) :
    k0_pay48 lanes (attained d) = pick d
    ∧ k0_pay50 (F := Ideal) lanes d (attained d) = pick (next d)
    ∧ k0_pay52 (F := Ideal) lanes d (attained d) = pick (next (next d))
    ∧ k0_pay54 (F := Ideal) lanes d (attained d) = pick (next (next (next d)))
    ∧ k0_pay55 (F := Ideal) lanes d (attained d) = next (next (next (next d))) :=
  ⟨rfl, rfl, rfl, rfl, rfl⟩

/-- Statements 421–480: four rounds from a block, the last left with its chosen entries located. -/
theorem part8 (d : FVec Ideal S128x16384 .f32) :
    k0_pay56 (F := Ideal) lanes d = pick d
    ∧ k0_pay58 (F := Ideal) lanes d = pick (next d)
    ∧ k0_pay60 (F := Ideal) lanes d = pick (next (next d))
    ∧ k0_pay61 (F := Ideal) lanes d = next (next (next d))
    ∧ k0_pay62 (F := Ideal) lanes d = pick (next (next (next d)))
    ∧ k0_pay63 (F := Ideal) lanes d = chosen (pick (next (next (next d)))) :=
  ⟨rfl, rfl, rfl, rfl, rfl, rfl⟩

/-- Statements 481–540: three rounds from a block whose chosen entries are located, a fourth begun. -/
theorem part9 (d : FVec Ideal S128x16384 .f32) :
    k0_pay65 (F := Ideal) lanes d (chosen (pick d)) = pick (next d)
    ∧ k0_pay67 (F := Ideal) lanes d (chosen (pick d)) = pick (next (next d))
    ∧ k0_pay69 (F := Ideal) lanes d (chosen (pick d)) = pick (next (next (next d)))
    ∧ k0_pay70 (F := Ideal) lanes d (chosen (pick d)) = next (next (next (next d)))
    ∧ k0_pay71 (F := Ideal) lanes d (chosen (pick d)) = candidates (next (next (next (next d)))) :=
  ⟨rfl, rfl, rfl, rfl, rfl⟩

/-- Statements 541–600: the last four rounds, from a block with its candidates. -/
theorem part10 (d : FVec Ideal S128x16384 .f32) :
    k0_pay72 (candidates d) = pick d
    ∧ k0_pay74 (F := Ideal) lanes d (candidates d) = pick (next d)
    ∧ k0_pay76 (F := Ideal) lanes d (candidates d) = pick (next (next d))
    ∧ k0_pay77 (F := Ideal) lanes d (candidates d) = pick (next (next (next d))) :=
  ⟨rfl, rfl, rfl, rfl⟩

/-! ## The body -/

/-- The body's own indices within a row are `lanes`. -/
theorem lanes_eq : k0_pay94 x0 x1 = lanes := rfl

/-- The 32 columns the body writes, side by side: column `r` is `v r`. -/
theorem columns_apply (v : ℕ → IVec S128 32) (i : Fin 128) (r : Fin 32) :
    k0_pay2 (k0_pay1 (v 11) (v 12) (v 13) (v 14) (v 15) (v 16) (v 17) (v 18) (v 19) (v 20) (v 21) (v 22) (v 23)
        (v 24) (v 25) (v 26) (v 27) (v 28) (v 29) (v 30) (v 31) (k0_pay78 (v 0)) (k0_pay79 (v 1)) (k0_pay80 (v 2))
        (k0_pay81 (v 3)) (k0_pay82 (v 4)) (k0_pay83 (v 5)) (k0_pay84 (v 6)) (k0_pay85 (v 7)) (k0_pay86 (v 8))
        (k0_pay87 (v 9)) (k0_pay88 (v 10))) (ix3 0 i r) = v r.val (ix1 i) := by
  pointwise [k0_pay2, k0_pay1, k0_pay78, k0_pay79, k0_pay80, k0_pay81, k0_pay82, k0_pay83, k0_pay84, k0_pay85,
        k0_pay86, k0_pay87, k0_pay88]
  fin_vals r with hr
  all_goals simp only [hr, Nat.reduceSub, Nat.reduceLT, ↓reduceDIte]

/-- The block of distances handed on after 2 rounds. -/
theorem pay95_eq : k0_pay95 x0 x1 = after x0 x1 2 := by
  rw [after_succ, after_succ, after_zero]
  exact (part2 _ _ _ _ _).2.2.1

/-- Where the block after 2 rounds attains its least values. -/
theorem pay96_eq : k0_pay96 x0 x1 = attained (after x0 x1 2) := by
  rw [after_succ, after_succ, after_zero]
  exact (part2 _ _ _ _ _).2.2.2

/-- The block of distances handed on after 6 rounds. -/
theorem pay97_eq : k0_pay97 x0 x1 = after x0 x1 6 := by
  simp only [k0_pay97, lanes_eq, pay95_eq, pay96_eq, part3, ← after_succ, Nat.reduceAdd]

/-- The block of distances handed on after 9 rounds. -/
theorem pay98_eq : k0_pay98 x0 x1 = after x0 x1 9 := by
  simp only [k0_pay98, lanes_eq, pay97_eq, part4, ← after_succ, Nat.reduceAdd]

/-- The entries that the round following 9 rounds has chosen. -/
theorem pay99_eq : k0_pay99 x0 x1 = chosen (pick (after x0 x1 9)) := by
  simp only [k0_pay99, lanes_eq, pay97_eq, part4, ← after_succ, Nat.reduceAdd]

/-- The block of distances handed on after 13 rounds. -/
theorem pay100_eq : k0_pay100 x0 x1 = after x0 x1 13 := by
  simp only [k0_pay100, lanes_eq, pay98_eq, pay99_eq, part5, ← after_succ, Nat.reduceAdd]

/-- The candidates of the block after 13 rounds. -/
theorem pay101_eq : k0_pay101 x0 x1 = candidates (after x0 x1 13) := by
  simp only [k0_pay101, lanes_eq, pay98_eq, pay99_eq, part5, ← after_succ, Nat.reduceAdd]

/-- The block of distances handed on after 17 rounds. -/
theorem pay102_eq : k0_pay102 x0 x1 = after x0 x1 17 := by
  simp only [k0_pay102, lanes_eq, pay100_eq, pay101_eq, part6, ← after_succ, Nat.reduceAdd]

/-- Where the block after 17 rounds attains its least values. -/
theorem pay103_eq : k0_pay103 x0 x1 = attained (after x0 x1 17) := by
  simp only [k0_pay103, lanes_eq, pay100_eq, pay101_eq, part6, ← after_succ, Nat.reduceAdd]

/-- The block of distances handed on after 21 rounds. -/
theorem pay104_eq : k0_pay104 x0 x1 = after x0 x1 21 := by
  simp only [k0_pay104, lanes_eq, pay102_eq, pay103_eq, part7, ← after_succ, Nat.reduceAdd]

/-- The block of distances handed on after 24 rounds. -/
theorem pay105_eq : k0_pay105 x0 x1 = after x0 x1 24 := by
  simp only [k0_pay105, lanes_eq, pay104_eq, part8, ← after_succ, Nat.reduceAdd]

/-- The entries that the round following 24 rounds has chosen. -/
theorem pay106_eq : k0_pay106 x0 x1 = chosen (pick (after x0 x1 24)) := by
  simp only [k0_pay106, lanes_eq, pay104_eq, part8, ← after_succ, Nat.reduceAdd]

/-- The block of distances handed on after 28 rounds. -/
theorem pay107_eq : k0_pay107 x0 x1 = after x0 x1 28 := by
  simp only [k0_pay107, lanes_eq, pay105_eq, pay106_eq, part9, ← after_succ, Nat.reduceAdd]

/-- The candidates of the block after 28 rounds. -/
theorem pay108_eq : k0_pay108 x0 x1 = candidates (after x0 x1 28) := by
  simp only [k0_pay108, lanes_eq, pay105_eq, pay106_eq, part9, ← after_succ, Nat.reduceAdd]

/-- The choice of the first round. -/
theorem pick0_eq : k0_pay10 (k0_pay89 x0 x1) (k0_pay90 x0 x1) (k0_pay91 x0 x1) (k0_pay92 x0 x1) (k0_pay93 x0 x1)
    = pick (after x0 x1 0) := by
  rw [after_zero]
  exact (part2 _ _ _ _ _).1

/-- The choice of the second round. -/
theorem pick1_eq : k0_pay12 (k0_pay89 x0 x1) (k0_pay90 x0 x1) (k0_pay91 x0 x1) (k0_pay92 x0 x1) (k0_pay93 x0 x1)
    = pick (after x0 x1 1) := by
  rw [after_succ, after_zero]
  exact (part2 _ _ _ _ _).2.1

/-- The body writes its block at the origin. -/
theorem offset_zero : (![0, 0, 0] : Fin S1x128x32.rank → ℕ) = fun _ => 0 := by
  funext a; fin_cases a <;> rfl

/-- What the body writes: column `r` holds what round `r` chooses. -/
theorem block_apply (i : Fin 128) (r : Fin 32) :
    out0_2 x0 x1 (ix3 0 i r) = pick (next^[r.val] (dist x0 x1)) (ix1 i) := by
  have h := columns_apply (fun r => pick (after x0 x1 r)) i r
  unfold out0_2
  simp only [lanes_eq, pay95_eq, pay96_eq, pay97_eq, pay98_eq, pay99_eq, pay100_eq, pay101_eq, pay102_eq, pay103_eq,
    pay104_eq, pay105_eq, pay106_eq, pay107_eq, pay108_eq, pick0_eq, pick1_eq,
    part3, part4, part5, part6, part7, part8, part9, part10, ← after_succ, Nat.reduceAdd]
  rw [View.canon_unit_zero offset_zero]
  exact h.trans (by unfold after; rfl)

end Cert.Knn

end
-- ==== Proof.Distance.lean ====
/-
  The distances the rounds start from.

  Entry `(i, k)` of the block of distances is the squared distance of query `i` and point `k`, in the form
  `-2 q·p + q·q + p·p`, and it is below `⊤` when the coordinates are finite.
-/
module

public import proofs.«01_k».proof.Proof.Block

@[expose] public section

set_option maxRecDepth 65536

noncomputable section

namespace Cert.Knn

open Idealize.ShloMosaic Cert.KernelIdeal Cert.KernelIdeal.Gen

/-- The squared distance of two points as both programs write it: `-2 q·p + q·q + p·p`. -/
def sqDist (q p : Fin 3 → EReal) : EReal :=
  Ideal.ofBits .f32 0xC0000000#32 * (∑ c, q c * p c) + (∑ c, q c * q c) + ∑ c, p c * p c

/-- An entry of the block of distances. -/
theorem dist_apply (x0 : Vec Ideal S1x16384x3 .f32) (x1 : Vec Ideal S1x128x3 .f32) (i : Fin 128) (k : Fin 16384) :
    dist x0 x1 (ix2 i k) = sqDist (fun c => x1 (ix3 0 i c)) (fun c => x0 (ix3 0 k c)) := by
  unfold sqDist
  simp only [Fin.sum_univ_three]
  pointwise [dist, k0_pay89, k0_pay90, k0_pay91, k0_pay92, k0_pay93, k0_pay3, k0_pay4, k0_pay5, k0_pay6, k0_pay7,
    k0_pay8, k0_pay9]

/-- Between points of finite coordinates the squared distance is below `⊤`. -/
theorem sqDist_lt_top (q p : Fin 3 → EReal) (hq : ∀ c, q c ≠ ⊤ ∧ q c ≠ ⊥) (hp : ∀ c, p c ≠ ⊤ ∧ p c ≠ ⊥) :
    sqDist q p < ⊤ := by
  have h2 : Ideal.ofBits .f32 0xC0000000#32 = ((-2 : ℝ) : EReal) := by
    have h : BitVec.extractLsb' 31 1 3221225472#32 = 1#1 := by decide
    norm_num [Ideal.ofBits, Ideal.ieee, h, Nat.shiftRight_eq_div_pow]
  lift q to Fin 3 → ℝ using hq
  lift p to Fin 3 → ℝ using hp
  rw [sqDist, h2]
  simp only [Fin.sum_univ_three]
  norm_cast
  exact EReal.coe_lt_top _

end Cert.Knn

end
-- ==== Proof.Reference.lean ====
/-
  What the reference computes.

  The reference takes the 32 greatest of the negated distances with a stable sort. Entry `(b, s, r)` of its result is
  the index at place `r` of the stable sort of the distances of query `s` in batch `b`.
-/
module

public import proofs.«01_k».proof.Proof.Distance
public import proofs.«01_k».proof.Proof.Gen.ReferenceIdeal

@[expose] public section

set_option maxRecDepth 65536

noncomputable section

namespace Cert.Knn

open Idealize.ShloMosaic Cert.ReferenceIdeal Cert.ReferenceIdeal.Gen

/-- The negated distances the reference sorts. -/
def scores (a0 : FVec Ideal S4x16384x3 .f32) (a1 : FVec Ideal S4x512x3 .f32) : FVec Ideal S4x512x16384 .f32 :=
  let dots := Host.dotGeneral dot_S4x512x3_S4x3x16384_S4x512x16384_2_1_1_2_0_0 none a1
    (transpose S4x3x16384 [0, 2, 1] a0 transposes_S4x16384x3_S4x3x16384_0_2_1)
  let q2 := broadcastInDim S4x512x1 ![0, 1] bcast_S4x512_S4x512x1_0_1
    (Host.reduceAdd (mulf a1 a1) (constant S_ .f32 0x00000000#32) reducesTo_S4x512x3_S4x512_d2 h_S_)
  let p2 := broadcastInDim S4x1x16384 ![0, 2] bcast_S4x16384_S4x1x16384_0_2
    (Host.reduceAdd (mulf a0 a0) (constant S_ .f32 0x00000000#32) reducesTo_S4x16384x3_S4x16384_d2 h_S_)
  Host.negf (addf (addf
      (mulf (broadcastInDim S4x512x16384 ![] bcast_S_S4x512x16384 (constant S_ .f32 0xC0000000#32)) dots)
      (broadcastInDim S4x512x16384 ![0, 1, 2] bcast_S4x512x1_S4x512x16384_0_1_2 q2))
    (broadcastInDim S4x512x16384 ![0, 1, 2] bcast_S4x1x16384_S4x512x16384_0_1_2 p2))

/-- The squared distances of query `s` of batch `b` to the points of the batch. -/
def distances (a0 : FVec Ideal S4x16384x3 .f32) (a1 : FVec Ideal S4x512x3 .f32) (b : Fin 4) (s : Fin 512) :
    Fin 16384 → EReal :=
  fun k => sqDist (fun c => a1 (ix3 b s c)) (fun c => a0 (ix3 b k c))

/-- A score is a squared distance negated. -/
theorem scores_apply (a0 : FVec Ideal S4x16384x3 .f32) (a1 : FVec Ideal S4x512x3 .f32) (b : Fin 4) (s : Fin 512)
    (k : Fin 16384) : scores a0 a1 (ix3 b s k) = -distances a0 a1 b s k := by
  unfold distances sqDist
  pointwise [scores]

/-- Moving along the last axis replaces the last coordinate. -/
theorem along_last (b : Fin 4) (s : Fin 512) (j k : Fin 16384) :
    Shape.Idx.along (s := S4x512x16384) (ix3 b s j) 2 k = ix3 b s k := by
  funext a
  fin_cases a <;> rfl

/-- The indices of the greatest entries of `x`, read at an entry. -/
theorem topK_apply (x : FVec Ideal S4x512x16384 .f32) (b : Fin 4) (s : Fin 512) (r : Fin 32) :
    (Host.topK S4x512x32 2 (FloatOps.cmpfTotal .gt) x sliceFits_S4x512x16384_S4x512x32).2 (ix3 b s r)
      = BitVec.ofNat 32 (sortedFrom (fun k k' : Fin 16384 =>
          FloatOps.cmpfTotal .gt (x (ix3 b s k)) (x (ix3 b s k')) == 1#1) ⟨r.val, by omega⟩).val := by
  unfold Host.topK
  pointwise [Host.sort2]
  simp only [along_last]
  rfl

/-- Of two negated values the greater is the one whose value is smaller. -/
theorem cmpf_neg (x y : EReal) :
    ((FloatOps.cmpfTotal (F := Ideal) (φ := .f32) .gt (-x) (-y)) == 1#1) = decide (x < y) := by
  by_cases h : x < y <;> simp [Ideal.cmpfTotal_def, Ideal.cmp, CmpDirection.ordered, h]

/-- The reference's result: the indices of the least distances, as the stable sort lists them. -/
theorem reference_apply (a0 : FVec Ideal S4x16384x3 .f32) (a1 : FVec Ideal S4x512x3 .f32) (b : Fin 4) (s : Fin 512)
    (r : Fin 32) :
    (Host.topK S4x512x32 2 (FloatOps.cmpfTotal .gt) (scores a0 a1) sliceFits_S4x512x16384_S4x512x32).2 (ix3 b s r)
      = BitVec.ofNat 32 (sortedFrom (before (distances a0 a1 b s)) ⟨r.val, by omega⟩).val := by
  rw [topK_apply]
  simp only [scores_apply, cmpf_neg]
  rfl

end Cert.Knn

end
-- ==== Proof.Array.lean ====
/-
  What the kernel's result array holds.

  The grid has 16 points; point `t` handles batch `t / 4` and the 128 queries from `128 * (t % 4)` on. This module
  proves that, for finite coordinates, the array the kernel leaves holds at `(b, s, r)` the index at place `r` of the
  stable sort of the distances of query `s` in batch `b`.
-/
module

public import proofs.«01_k».proof.Proof.Reference
public import proofs.«01_k».proof.Proof.Gen.KernelIdeal.Value

@[expose] public section

set_option maxRecDepth 65536

noncomputable section

namespace Cert.Knn

open Idealize.ShloMosaic Idealize.ShloMosaic.TcCoe Idealize.SL.Sem Cert.KernelIdeal Cert.KernelIdeal.Gen
open Idealize.ShloMosaic.Pipeline (Dat)

/-- For every query the indices of its 32 nearest points, as the stable sort of its distances lists them. -/
def nearest (a0 : FVec Ideal S4x16384x3 .f32) (a1 : FVec Ideal S4x512x3 .f32) : IVec S4x512x32 32 :=
  fun j => BitVec.ofNat 32 (sortedFrom (before (distances a0 a1 (j 0) (j 1)))
    ⟨(j 2).val, (j 2).isLt.trans (by decide)⟩).val

/-- Every coordinate of an array of points is finite. -/
def Finite {s : Shape} (x : FVec Ideal s .f32) : Prop := ∀ j, x j ≠ ⊤ ∧ x j ≠ ⊥

/-- Between finite points every distance is below `⊤`. -/
theorem distances_lt_top (a0 : FVec Ideal S4x16384x3 .f32) (a1 : FVec Ideal S4x512x3 .f32) (h0 : Finite a0)
    (h1 : Finite a1) (b : Fin 4) (s : Fin 512) (k : Fin 16384) : distances a0 a1 b s k < ⊤ :=
  sqDist_lt_top _ _ (fun c => h1 _) fun c => h0 _

/-! ## The blocks of a grid point -/

/-- Point `t` reads batch `t / 4` of the points, whole. -/
theorem index0 : ∀ t : Fin grid0.N, win0_0.index t 0 = t.val / 4 ∧ win0_0.index t 1 = 0 ∧ win0_0.index t 2 = 0 := by
  decide +kernel

/-- Point `t` reads block `t % 4` of batch `t / 4` of the queries. -/
theorem index1 : ∀ t : Fin grid0.N, win0_1.index t 0 = t.val / 4 ∧ win0_1.index t 1 = t.val % 4
    ∧ win0_1.index t 2 = 0 := by
  decide +kernel

/-- Point `t` writes block `t % 4` of batch `t / 4` of the result. -/
theorem index2 : ∀ t : Fin grid0.N, win0_2.index t 0 = t.val / 4 ∧ win0_2.index t 1 = t.val % 4
    ∧ win0_2.index t 2 = 0 := by
  decide +kernel

/-- There are 16 grid points. -/
theorem grid_lt (t : Fin grid0.N) : t.val < 16 := lt_of_lt_of_eq t.isLt (by decide +kernel)

/-- The batch of a grid point. -/
def batch (t : Fin grid0.N) : Fin 4 := ⟨t.val / 4, by have := grid_lt t; omega⟩

/-- The query at row `i` of a grid point's block. -/
def query (t : Fin grid0.N) (i : Fin 128) : Fin 512 := ⟨t.val % 4 * 128 + i.val, by omega⟩

variable (m : (ℓ : Loc nD τ sig) → Buf (Elt Ideal) ℓ) (c : Dev nD)

/-- The points, as launched. -/
abbrev points : FVec Ideal S4x16384x3 .f32 := m ((c : Thread nD τ).loc main_arg0)

/-- The queries, as launched. -/
abbrev queries : FVec Ideal S4x512x3 .f32 := m ((c : Thread nD τ).loc main_arg1)

/-- An entry of the points a grid point reads. -/
theorem iblk0_apply (t : Fin cfg0.N) (k : Fin 16384) (e : Fin 3) :
    (iblk m c 0 t : Vec Ideal S1x16384x3 .f32) (ix3 0 k e) = points m c (ix3 (batch t) k e) := by
  obtain ⟨h0, h1, h2⟩ := index0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 4; rw [h0]; omega
  | ⟨1, _⟩ => show win0_0.index t 1 * 16384 + 1 * k.val = k.val; rw [h1]; omega
  | ⟨2, _⟩ => show win0_0.index t 2 * 3 + 1 * e.val = e.val; rw [h2]; omega

/-- An entry of the queries a grid point reads. -/
theorem iblk1_apply (t : Fin cfg0.N) (i : Fin 128) (e : Fin 3) :
    (iblk m c 1 t : Vec Ideal S1x128x3 .f32) (ix3 0 i e) = queries m c (ix3 (batch t) (query t i) e) := by
  obtain ⟨h0, h1, h2⟩ := index1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 4; rw [h0]; omega
  | ⟨1, _⟩ => show win0_1.index t 1 * 128 + 1 * i.val = t.val % 4 * 128 + i.val; rw [h1]; omega
  | ⟨2, _⟩ => show win0_1.index t 2 * 3 + 1 * e.val = e.val; rw [h2]; omega

/-- A row of a grid point's distances is the distances of the row's query. -/
theorem row_dist (t : Fin cfg0.N) (i : Fin 128) :
    row (dist (iblk m c 0 t) (iblk m c 1 t)) i = distances (points m c) (queries m c) (batch t) (query t i) := by
  funext k
  refine (dist_apply _ _ i k).trans ?_
  unfold distances
  congr 1
  · funext e; exact iblk1_apply m c t i e
  · funext e; exact iblk0_apply m c t k e

/-- What a grid point writes: the nearest points of its queries. -/
theorem out_apply (h0 : Finite (points m c)) (h1 : Finite (queries m c)) (t : Fin cfg0.N) (i : Fin 128) (r : Fin 32) :
    out0_2 (iblk m c 0 t) (iblk m c 1 t) (ix3 0 i r)
      = nearest (points m c) (queries m c) (ix3 (batch t) (query t i) r) := by
  rw [block_apply, pick_iterate _ i (fun k => ?_) r.val (by omega), row_dist]
  · rfl
  · rw [row_dist]
    exact distances_lt_top _ _ h0 h1 _ _ k

/-! ## The array -/

/-- The nearest points of every query, as contents of the result array. -/
abbrev result : Buf (Elt Ideal) ((c : Thread nD τ).loc main_v0) := nearest (points m c) (queries m c)

/-- Every block written back is the block of `nearest`. -/
theorem flushed_eq (h0 : Finite (points m c)) (h1 : Finite (queries m c)) (t : Fin cfg0.N)
    (_ : (cfg0.win 2).flush t = true) :
    (dats m 0 c).flushed 2 t
      = ((cfg0.win 2).blk t).view.read (Elt Ideal) (result m c) := by
  obtain ⟨i0, i1, i2⟩ := index2 t
  rw [Value.flushed2]
  funext j
  rw [View.read_apply]
  have hj : j = (ix3 0 (j 1) (j 2) : S1x128x32.Idx) := by
    funext a
    match a with
    | ⟨0, _⟩ => exact Subsingleton.elim (α := Fin 1) _ _
    | ⟨1, _⟩ => rfl
    | ⟨2, _⟩ => rfl
  have e := out_apply m c h0 h1 t (j 1) (j 2)
  rw [← hj] at e
  refine Eq.trans ?_ (e.trans ?_)
  · rfl
  · show nearest _ _ _ = nearest _ _ _
    congr 1
    funext a
    apply Fin.ext
    match a with
    | ⟨0, _⟩ =>
      have : (j 0).val = 0 := congrArg Fin.val (Subsingleton.elim (α := Fin 1) (j 0) 0)
      show t.val / 4 = win0_2.index t 0 * 1 + 1 * (j 0).val; rw [i0]; omega
    | ⟨1, _⟩ => show t.val % 4 * 128 + (j 1).val = win0_2.index t 1 * 128 + 1 * (j 1).val; rw [i1]; omega
    | ⟨2, _⟩ => show (j 2).val = win0_2.index t 2 * 32 + 1 * (j 2).val; rw [i2]; omega

/-- The kernel's result array holds the nearest points of every query. -/
theorem array_eq (h0 : Finite (points m c)) (h1 : Finite (queries m c)) :
    (dats m 0 c).arrAt 2 cfg0.N = result m c := by
  refine (dats m 0 c).arrAt_eq_of_cover 2 _ (flushed_eq m c h0 h1) fun i => ?_
  have l0 : (i 0).val < 4 := (i 0).isLt
  have l1 : (i 1).val < 512 := (i 1).isLt
  have l2 : (i 2).val < 32 := (i 2).isLt
  have hN : grid0.N = 16 := by decide +kernel
  let t : Fin grid0.N := ⟨(i 0).val * 4 + (i 1).val / 128, by omega⟩
  have ht : t.val = (i 0).val * 4 + (i 1).val / 128 := rfl
  obtain ⟨i0, i1, i2⟩ := index2 t
  refine ⟨t, flush0_2 t, ?_⟩
  show i ∈ ((View.whole main_v0).slice (win0_2.rect t)).set
  rw [View.set_slice_whole, Rect.mem_set_unit]
  intro a
  match a with
  | ⟨0, _⟩ => show win0_2.index t 0 * 1 ≤ (i 0).val ∧ (i 0).val < win0_2.index t 0 * 1 + 1; rw [i0]; omega
  | ⟨1, _⟩ => show win0_2.index t 1 * 128 ≤ (i 1).val ∧ (i 1).val < win0_2.index t 1 * 128 + 128; rw [i1]; omega
  | ⟨2, _⟩ => show win0_2.index t 2 * 32 ≤ (i 2).val ∧ (i 2).val < win0_2.index t 2 * 32 + 32; rw [i2]; omega

end Cert.Knn

end
-- ==== Proof.Pre.lean ====
/-
  The precondition read as a property of the coordinates: if it holds, every coordinate of both arrays is finite.
-/
module

public import proofs.«01_k».proof.Proof.Array
public import proofs.«01_k».proof.Pre_finite
public import Idealize.ShloMosaic.Lib.ReduceAll

@[expose] public section

set_option maxRecDepth 65536

noncomputable section

namespace Cert.Knn

open Idealize.ShloMosaic

/-- The shape relations the precondition's operations take. -/
theorem preFacts : Cert.Pre_finite.Facts where
  bcast_S_S4x16384x3 := by decide
  reducesTo_S4x16384x3_S_d0_1_2 := by decide
  h_S_ := by decide
  bcast_S_S4x512x3 := by decide
  reducesTo_S4x512x3_S_d0_1_2 := by decide

/-- A number whose absolute value is below `⊤` is finite. -/
theorem finite_of_abs (x : EReal) (h : max x (-x) < ⊤) : x ≠ ⊤ ∧ x ≠ ⊥ := by
  rw [max_lt_iff] at h
  refine ⟨h.1.ne, fun e => ?_⟩
  rw [e, EReal.neg_bot] at h
  exact h.2.ne rfl

/-- The comparison with `+∞` that the precondition makes of a coordinate, where it holds. -/
theorem finite_of_compare (x : EReal)
    (h : Ideal.cmp .olt (max x (-x)) (Ideal.ofBits .f32 0x7F800000#32) = 1#1) : x ≠ ⊤ ∧ x ≠ ⊥ := by
  rw [ofBits_infinity] at h
  refine finite_of_abs x ?_
  by_contra hn
  simp [Ideal.cmp, hn] at h

/-- Where the precondition holds, every coordinate of both arrays is finite. -/
theorem finite_of_pre (a0 : FVec Ideal KernelIdeal.S4x16384x3 .f32) (a1 : FVec Ideal KernelIdeal.S4x512x3 .f32)
    (h : @Cert.Pre_finite.fn preFacts Ideal _ a0 a1 = fun _ => 1#1) : Finite a0 ∧ Finite a1 := by
  have e := congrFun h fun a => a.elim0
  unfold Cert.Pre_finite.fn at e
  obtain ⟨e0, e1⟩ := IntOp.andi_eq_one.1 e
  haveI : Subsingleton Cert.Pre_finite.S_.Idx := ⟨fun _ _ => funext fun a => a.elim0⟩
  exact ⟨fun j => finite_of_compare _ (Host.reduce_andi_all _ _ _ _ _ e0 j),
    fun j => finite_of_compare _ (Host.reduce_andi_all _ _ _ _ _ e1 j)⟩

end Cert.Knn

end
-- ==== Proof.lean ====
/-
  The claims about the nearest-points kernel, assembled.

  The frames of the three programs come from their runs. The value claim sets the kernel's run, whose result array holds
  the nearest points of every query (`Cert.Knn.array_eq`), beside the reference's run, whose result is the same array
  read entry by entry (`Cert.Knn.reference_apply`).
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Array
public import proofs.«01_k».proof.Proof.Pre
public import Idealize.ShloMosaic.Lib.Quiescent

@[expose] public section

set_option maxRecDepth 65536

noncomputable section

namespace Cert.Proof

open Idealize.ShloMosaic Idealize.ShloMosaic.TcCoe Idealize.SL.Sem

instance : Cert.Pre_finite.Facts := Cert.Knn.preFacts

/-- The reference runs, leaves its arguments as they were and, having no semaphore, ends quiescent. -/
theorem reference_frame (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ (fun r => (∀ c : Dev ReferenceIdeal.nD,
        r.2.mem ((c.tc : Thread ReferenceIdeal.nD ReferenceIdeal.τ).loc ReferenceIdeal.main_arg0)
            = m ((c.tc : Thread ReferenceIdeal.nD ReferenceIdeal.τ).loc ReferenceIdeal.main_arg0)
        ∧ r.2.mem ((c.tc : Thread ReferenceIdeal.nD ReferenceIdeal.τ).loc ReferenceIdeal.main_arg1)
            = m ((c.tc : Thread ReferenceIdeal.nD ReferenceIdeal.τ).loc ReferenceIdeal.main_arg1))
        ∧ r.2.sem = fun _ => 0) :=
  (θ_run _ _ _).mono (fun r h => ⟨fun c => (h c).2, sem_eq_zero_of_no_sems rfl r.2⟩)
    (ReferenceIdeal.Value.run m g)

/-- The reference's result is the array of the nearest points of every query. -/
theorem reference_eq (a0 : FVec Ideal ReferenceIdeal.S4x16384x3 .f32) (a1 : FVec Ideal ReferenceIdeal.S4x512x3 .f32) :
    (Host.topK ReferenceIdeal.S4x512x32 2 (FloatOps.cmpfTotal .gt) (Knn.scores a0 a1)
        ReferenceIdeal.Gen.sliceFits_S4x512x16384_S4x512x32).2 = Knn.nearest a0 a1 := by
  funext j
  have hj : j = ix3 (j 0) (j 1) (j 2) := by
    funext a
    match a with
    | ⟨0, _⟩ => rfl
    | ⟨1, _⟩ => rfl
    | ⟨2, _⟩ => rfl
  rw [hj]
  exact Knn.reference_apply a0 a1 (j 0) (j 1) (j 2)

/-- On finite coordinates the kernel and the reference leave the same array of indices. -/
theorem algebraic : Cert.algebraic_KernelIdeal_ReferenceIdeal_pre_finite := by
  intro m g m' g' hpre harg
  have hfin c := Knn.finite_of_pre _ _ (hpre c)
  refine ⟨fun c => Knn.result m c, ?_, ?_⟩
  · refine (θ_run _ _ _).mono (fun r h c => ?_) (KernelIdeal.Value.run_blocks m g)
    exact ⟨(h c).1.trans (Knn.array_eq m c (hfin c).1 (hfin c).2), (h c).2⟩
  · refine (θ_run _ _ _).mono (fun r h c => ⟨(h c).1.trans ?_, (h c).2⟩) (ReferenceIdeal.Value.run m' g')
    refine (reference_eq _ _).trans ?_
    rw [(harg c).1, (harg c).2]

/-- Everything claimed of the kernel. -/
theorem claim : Cert.Claim :=
  ⟨Cert.Kernel.Gen.facts, Cert.KernelIdeal.Gen.facts, Cert.ReferenceIdeal.Gen.facts, Cert.Knn.preFacts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    algebraic⟩

end Cert.Proof

end
